-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_probs_and_logits [hKernelIdeal : Cert.KernelIdeal.Facts] [hReferenceIdeal : Cert.ReferenceIdeal.Facts] [hOn_probs_and_logits : Cert.On_probs_and_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 16]⟩ : Shape).Idx, (Cert.On_probs_and_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨2, ![8192, 16]⟩ : Shape).Idx, (Cert.On_probs_and_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v0_1) i = v1 c i)
          ∧ (∀ i : (⟨2, ![8192, 16]⟩ : Shape).Idx, (Cert.On_probs_and_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 16]⟩ : Shape).Idx, (Cert.On_probs_and_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v21) i = v0 c i)
          ∧ (∀ i : (⟨2, ![8192, 16]⟩ : Shape).Idx, (Cert.On_probs_and_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v16) i = v1 c i)
          ∧ (∀ i : (⟨2, ![8192, 16]⟩ : Shape).Idx, (Cert.On_probs_and_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v1) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts) (hOn_probs_and_logits : Cert.On_probs_and_logits.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_probs_and_logits (hKernelIdeal := hKernelIdeal) (hReferenceIdeal := hReferenceIdeal) (hOn_probs_and_logits := hOn_probs_and_logits)
    ∧ algebraic_KernelIdeal_ReferenceIdeal_pre_finite (hKernelIdeal := hKernelIdeal) (hReferenceIdeal := hReferenceIdeal) (hPre_finite := hPre_finite)
-- ==== On_probs_and_logits.lean ====
abbrev S8192x2048 : Shape := ⟨2, ![8192, 2048]⟩
abbrev S16x2048 : Shape := ⟨2, ![16, 2048]⟩
abbrev S_ : Shape := ⟨0, ![]⟩
abbrev S8192x16 : Shape := ⟨2, ![8192, 16]⟩

class Facts : Prop where
  bcast_S_S8192x16 : S_.BroadcastsInDim S8192x16 (![] : Fin 0 → Fin S8192x16.rank)

variable [Facts]

def fn {F : FTy → Type} [FloatOps F] (main_arg0 : FVec F S8192x2048 .f32) (main_arg1 : FVec F S16x2048 .f32) : IVec S8192x16 1 × IVec S8192x16 1 × IVec S8192x16 1 :=
  let main_c : IVec S_ 1 := constantI S_ 1 1#1
  let main_v0 : IVec S8192x16 1 := broadcastInDim S8192x16 ![] bcast_S_S8192x16 main_c
  let main_c_0 : IVec S_ 1 := constantI S_ 1 0#1
  let main_v1 : IVec S8192x16 1 := broadcastInDim S8192x16 ![] bcast_S_S8192x16 main_c_0
  (main_v1, main_v0, main_v0)
-- ==== Pre_finite.lean ====
abbrev S8192x2048 : Shape := ⟨2, ![8192, 2048]⟩
abbrev S16x2048 : Shape := ⟨2, ![16, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S8192x2048 .f32) (main_arg1 : FVec F S16x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  main_v8
-- ==== Kernel.lean ====
abbrev S8192x2048 : Shape := ⟨2, ![8192, 2048]⟩
abbrev S16x2048 : Shape := ⟨2, ![16, 2048]⟩
abbrev S16x8192 : Shape := ⟨2, ![16, 8192]⟩
abbrev S_ : Shape := ⟨0, ![]⟩
abbrev S8192x16 : Shape := ⟨2, ![8192, 16]⟩
abbrev S1024x2048 : Shape := ⟨2, ![1024, 2048]⟩
abbrev S16x1024 : Shape := ⟨2, ![16, 1024]⟩
abbrev S1024 : Shape := ⟨1, ![1024]⟩
abbrev S1x1024 : Shape := ⟨2, ![1, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S16x8192, .i32⟩
  | .hbm, ⟨3, _⟩ => ⟨S16x8192, .f32⟩
  | .hbm, ⟨4, _⟩ => ⟨S16x8192, .f32⟩
  | .hbm, ⟨5, _⟩ => ⟨S_, .i32⟩
  | .hbm, ⟨6, _⟩ => ⟨S16x8192, .i32⟩
  | .hbm, ⟨7, _⟩ => ⟨S16x8192, .i1⟩
  | .hbm, ⟨8, _⟩ => ⟨S16x8192, .i1⟩
  | .hbm, ⟨9, _⟩ => ⟨S8192x16, .i1⟩
  | .hbm, ⟨10, _⟩ => ⟨S8192x16, .f32⟩
  | .hbm, ⟨11, _⟩ => ⟨S8192x16, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x8192, .i32⟩
  | .local _ .vmem, ⟨4, _⟩ => ⟨S16x8192, .f32⟩
  | .local _ .vmem, ⟨5, _⟩ => ⟨S16x8192, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_10 : Index := 0#32
  let arg0 : BitVec 32 := BitVec.ofNat 32 (i 0).val
  let c1024_i32 : BitVec 32 := 1024#32
  let v34 : BitVec 32 := Scalar.muli arg0 c1024_i32
  let v35 : Index := Scalar.indexCast v34
  ![0, v35.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x2048 : Shape := ⟨2, ![8192, 2048]⟩
abbrev S16x2048 : Shape := ⟨2, ![16, 2048]⟩
abbrev S2048x16 : Shape := ⟨2, ![2048, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S8192x2x1 : Shape := ⟨3, ![8192, 2, 1]⟩
abbrev S1x1x16 : Shape := ⟨3, ![1, 1, 16]⟩
abbrev S8192x2x16 : Shape := ⟨3, ![8192, 2, 16]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048x16, .f32⟩
  | .hbm, ⟨3, _⟩ => ⟨S8192x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x16, .f32⟩
  | .hbm, ⟨9, _⟩ => ⟨S8192x16, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x16, .f32⟩
  | .hbm, ⟨23, _⟩ => ⟨S8192x16, .f32⟩
  | .hbm, ⟨24, _⟩ => ⟨S8192x2, .f32⟩
  | .hbm, ⟨25, _⟩ => ⟨S8192x2, .i32⟩
  | .hbm, ⟨26, _⟩ => ⟨S8192x2x1, .i32⟩
  | .hbm, ⟨27, _⟩ => ⟨S1x1x16, .i32⟩
  | .hbm, ⟨28, _⟩ => ⟨S8192x2x16, .i32⟩
  | .hbm, ⟨29, _⟩ => ⟨S8192x2x16, .i32⟩
  | .hbm, ⟨30, _⟩ => ⟨S8192x2x16, .i1⟩
  | .hbm, ⟨31, _⟩ => ⟨S8192x2x16, .f32⟩
  | .hbm, ⟨32, _⟩ => ⟨S_, .f32⟩
  | .hbm, ⟨33, _⟩ => ⟨S8192x16, .f32⟩
  | .hbm, ⟨34, _⟩ => ⟨S_, .f32⟩
  | .hbm, ⟨35, _⟩ => ⟨S8192x16, .f32⟩
  | .hbm, ⟨36, _⟩ => ⟨S8192x16, .i1⟩
  | .hbm, ⟨37, _⟩ => ⟨S8192x16, .i1⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_values : Ref sig .tc := ⟨.hbm, 24, rfl⟩
abbrev main_indices : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Proof.Body.lean ====
/-
  What one grid point does: the kernel's body run on any staging buffers.
-/
module

public import proofs.«01_k».proof.Proof.Gen.KernelIdeal.Frame
public import proofs.«01_k».proof.Proof.Gen.KernelIdeal.Skeleton
public import Idealize.ShloMosaic.Lib.Pointwise.Index
public import Idealize.ShloMosaic.Lib.WholeRead
public import Idealize.ShloMosaic.Lib.Writes

@[expose] public section

set_option maxRecDepth 16384

noncomputable section

namespace Cert.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- An array of 16 rows of 8192, with the columns of block `n` replaced by the block `p`. -/
def put {α : Type} (n : Nat) (p : S16x1024.Idx → α) (x : S16x8192.Idx → α) : S16x8192.Idx → α := fun y =>
  if (y 1).val / 1024 = n then p (ix2 (n0 := 16) (n1 := 1024) (y 0) ⟨(y 1).val % 1024, Nat.mod_lt _ (by decide)⟩) else x y

/-- Point `i` stores at row 0 and at column 1024 times its own number. -/
theorem off_eq (i : grid0.Coords) : k0_off1 i = ![0, 1024 * (i 0).val] := by
  have h : ∀ a : Fin 8, (Scalar.indexCast (Scalar.muli (BitVec.ofNat 32 a.val) 1024#32)).toNat = 1024 * a.val := by decide
  have := h (i 0)
  unfold k0_off1
  rw [← this]

/-- The columns that the body's stores at the coordinates `i` cover. -/
abbrev cols (i : grid0.Coords) : Rect S16x8192 := Rect.unit (s := S16x8192) (k0_off1 i) S16x1024.size (k0_off1_inb i)

/-- A block stored over the columns of point `i` leaves the array with those columns replaced. -/
theorem read_stored {e : EltTy} (M : Memref sig .tc .vmem S16x8192 e) (hM : M.IsWhole) (i : grid0.Coords)
    (x : S16x8192.Idx → Elt F e) (p : S16x1024.Idx → Elt F e) :
    View.read (Elt F) M.view (M.view.writes (Elt F) (hM.unread x) [⟨cols i, p⟩]) = put (i 0).val p x := by
  funext y
  have h0 : (cols i).off 0 = 0 := congrFun (off_eq i) 0
  have h1 : (cols i).off 1 = 1024 * (i 0).val := congrFun (off_eq i) 1
  unfold put
  split
  · next h =>
    refine View.read_writes_cons_hit_of_coords M.view (hM.unread x) (cols i) p [] _ y fun a => ?_
    match a with
    | ⟨0, _⟩ =>
      show (y 0).val = (cols i).off 0 + 1 * (y 0).val
      rw [h0]; omega
    | ⟨1, _⟩ =>
      show (y 1).val = (cols i).off 1 + 1 * ((y 1).val % 1024)
      rw [h1]; omega
  · next h =>
    rw [View.read_writes_cons_miss_of_axis M.view (hM.unread x) ⟨cols i, p⟩ [] y 1 (1024 * (i 0).val) 1024 h1 rfl rfl (by omega)]
    exact congrFun (hM.read_unread x) y

/-- A load of the whole of a memref reads what the memref holds. -/
theorem read_whole {s : Shape} {e : EltTy} (M : Memref sig .tc .vmem s e) (hM : M.IsWhole) (x : s.Idx → Elt F e)
    (off : Fin s.rank → ℕ) (h : ∀ a, off a + s.size a ≤ s.size a) :
    View.readAt (Elt F) M.view (Rect.unit (s := s) off s.size h).toLoadRect (hM.unread x) = x := by
  funext y
  rw [Memref.IsWhole.readAt_unread hM]
  congr 1
  funext a
  apply Fin.ext
  show off a + 1 * (y a).val = (y a).val
  have := h a
  omega

set_option maxHeartbeats 1000000 in
/-- The body run: the inputs are left as they were, and each output holds what it held with the covered columns
    replaced by the block's values. -/
theorem body_run (c : Dev nD) (i : grid0.Coords) (arg1 : Memref sig .tc .vmem S1024x2048 .f32) (harg1 : arg1.IsWhole) (arg2 : Memref sig .tc .vmem S16x2048 .f32) (harg2 : arg2.IsWhole) (arg3 : Memref sig .tc .vmem S16x8192 .i32) (harg3 : arg3.IsWhole) (arg4 : Memref sig .tc .vmem S16x8192 .f32) (harg4 : arg4.IsWhole) (arg5 : Memref sig .tc .vmem S16x8192 .f32) (harg5 : arg5.IsWhole)
    (x0 : Vec F S1024x2048 .f32) (x1 : Vec F S16x2048 .f32) (x2 : Vec F S16x8192 .i32) (x3 x4 : Vec F S16x8192 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (iprop(owns (c : Thread nD τ) arg1 fullShare x0 ∗ owns (c : Thread nD τ) arg2 fullShare x1
            ∗ owns (c : Thread nD τ) arg3 fullShare (put (i 0).val (k0_pay4 x0 x1) x2)
            ∗ owns (c : Thread nD τ) arg4 fullShare (put (i 0).val (k0_pay3 x0 x1) x3)
            ∗ owns (c : Thread nD τ) arg5 fullShare (put (i 0).val (k0_pay1 x0 x1) x4)) -∗ K ⟨⟩))
      ⊢ wp frame (wpE (defs₀ (F := F)) Variants.none c none) E (cc0__router_kernel i arg1 harg1 arg2 harg2 arg3 harg3 arg4 harg4 arg5 harg5) K := by
  simp only [cc0__router_kernel_eq_skeleton]; unfold cc0__router_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [read_stored arg3 harg3, read_whole arg1 harg1, read_whole arg2 harg2]
  isplitl [H3]
  · iexists _; isplitr; swap; · iexact H3
    ipureintro
    unfold body_run.sl.r_1
    rw [read_stored arg4 harg4, read_whole arg1 harg1, read_whole arg2 harg2]
  · iexists _; isplitr; swap; · iexact H4
    ipureintro
    unfold body_run.sl.r
    rw [read_stored arg5 harg5, read_whole arg1 harg1, read_whole arg2 harg2]

end Cert.Router

end
-- ==== Proof.Launch.lean ====
/-
  The launch of a pipeline whose body is described by a relation, when that relation leaves exactly one possible
  content for every array at the end of the region. The host lines that follow the region then compute from known
  contents, so the final value of every buffer outside the pipeline is known.
-/
module

public import Idealize.ShloMosaic.Lib.Pipeline.FrameSuffix

@[expose] public section

noncomputable section

namespace Cert.Router

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe
open Idealize.ShloMosaic.Pipeline Idealize.ShloMosaic.Rounds

variable {nD : Nat} {τ : Topo} {sig : RefSig} {Val : EltTy → Type}
variable {Λ₀ : Labels} {P : Type} [Fintype P] [DecidableEq P] [∀ e, Nonempty (Val e)]

local notation "𝕄" => MT nD τ sig Unit Val ℕ (UR sig nD τ) ℕ

section

variable {cfg : Cfg sig Λ₀} {c : Dev nD}

/-- When each array has one possible content at the end, holding the arrays at possible contents is holding them at
    those contents, which are then possible. -/
theorem arraysAt_named (rd : RDat τ Val Unit ℕ (UR sig nD τ) ℕ cfg c)
    (B : (w : Fin cfg.W) → Buf Val ((cfg.win w).arr.view.loc (c.tc : Thread nD τ)))
    (hB : ∀ w G, rd.ArrAt w cfg.N G → G = B w) :
    (rd.arraysAt cfg.N : sProp 𝕄) ⊢ iprop(⌜∀ w, rd.ArrAt w cfg.N (B w)⌝ ∗ rd.arrays B) := by
  unfold RDat.arraysAt RDat.arrays
  refine (BI.bigSep_mono (Ψ := fun w => iprop(⌜rd.ArrAt w cfg.N (B w)⌝
      ∗ ((cfg.win w).arr.view.loc (c.tc : Thread nD τ) ↦[(cfg.win w).arr.view.set]{rd.share w} B w))) fun w _ => ?_).trans ?_
  · show (iprop(∃ G, ⌜rd.ArrAt w cfg.N G⌝ ∗ ((cfg.win w).arr.view.loc (c.tc : Thread nD τ) ↦[(cfg.win w).arr.view.set]{rd.share w} G)) : sProp 𝕄) ⊢ _
    iintro ⟨%G, %hG, H⟩
    obtain rfl := hB w G hG
    isplitr
    · ipureintro; exact hG
    · iexact H
  · show (_ : sProp 𝕄) ⊢ _
    iintro H
    ihave H' := (BI.bigSep_pure_sep Finset.univ (fun w => rd.ArrAt w cfg.N (B w))
      (fun w => ((cfg.win w).arr.view.loc (c.tc : Thread nD τ) ↦[(cfg.win w).arr.view.set]{rd.share w} B w))) $$ H
    icases H' with ⟨%h, H⟩
    isplitr
    · ipureintro; exact fun w => h w (Finset.mem_univ w)
    · iexact H

/-- The way back: arrays held at possible contents. -/
theorem arraysAt_of_named (rd : RDat τ Val Unit ℕ (UR sig nD τ) ℕ cfg c)
    (B : (w : Fin cfg.W) → Buf Val ((cfg.win w).arr.view.loc (c.tc : Thread nD τ)))
    (h : ∀ w, rd.ArrAt w cfg.N (B w)) : (rd.arrays B : sProp 𝕄) ⊢ rd.arraysAt cfg.N := by
  unfold RDat.arraysAt RDat.arrays
  refine BI.bigSep_mono fun w _ => ?_
  show (_ : sProp 𝕄) ⊢ _
  iintro H
  iexists (B w)
  isplitr
  · ipureintro; exact h w
  · iexact H

end

variable (pcs : P → PCfg sig Λ₀ Val) (a : (p : P) → (pcs p).Adm) (p : P)
  (kit : PLaunchFacts (nD := nD) (τ := τ) pcs p) (defs₀ : Defs nD τ sig Val Λ₀) (𝒱₀ : Variants)

local notation "cfg" => pin pcs a p
local notation "𝔻" => Pipeline.defs pcs defs₀

/-- What the buffers hold after the lines `opss`, run where the arrays hold `B` and every other buffer `V₀`. -/
abbrev tailValue (V₀ : Dev nD → Valuation τ sig Val) (opss : List (List (HloOp τ sig Val)))
    (B : (c : Dev nD) → (w : Fin (cfg).W) → Buf Val (((cfg).win w).arr.view.loc (c.tc : Thread nD τ)))
    (c : Dev nD) (b : Ref sig .tc) : Buf Val ((c.tc : Thread nD τ).loc b) :=
  StableHlo.after opss.flatten (withArrays (cfg).spec c (V₀ c) (B c)) (Proc.devRef .tc b)

include kit in
/-- The run: the arrays end at the contents `B` that the relation leaves, every other unscoped buffer as the lines
    after the region compute it from `B`, and every counter at zero. -/
theorem run_named (rdat : (c : Dev nD) → RDat τ Val Unit ℕ (UR sig nD τ) ℕ (cfg) c)
    (B : (c : Dev nD) → (w : Fin (cfg).W) → Buf Val (((cfg).win w).arr.view.loc (c.tc : Thread nD τ)))
    (hB : ∀ c w G, (rdat c).ArrAt w (cfg).N G → G = B c w)
    (m : (ℓ : Loc nD τ sig) → Buf Val ℓ) (g : Dev nD → PrngReg)
    (main : Dev nD → Prog (TpuEff nD τ sig Val (Pipeline.Sig Λ₀ P fun p => (pcs p).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (cfg).spec)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (cfg).spec w)))
    (hpf : ∀ c k, V₀ c (Proc.devRef .tc ((pcs p).pre.ref k)) = (a p).1 k)
    (hin : ∀ c, iprop(ΦA (cfg).spec c ∗ ΦT (pcs p).pre (a p).1 c) ⊢ (rdat c).Φ 0)
    (hout : ∀ c, (rdat c).Φ (Fin.last (cfg).N) ⊢ ΦA (cfg).spec c) :
    θ_run 𝔻 (onTc main) (s₀ m g) (fun r =>
      (∀ c : Dev nD, (∀ w, r.2.mem (((cfg).spec w).arr.view.loc (c.tc : Thread nD τ)) = B c w)
        ∧ ∀ b ∈ restRefsP sig (pcs p).pre (cfg).spec,
            r.2.mem ((c.tc : Thread nD τ).loc b) = tailValue pcs a p V₀ opss B c b)
      ∧ r.2.sem = fun _ => 0) := by
  classical
  have hq : ∀ c w, ((cfg).spec w).isOut = false → (rdat c).q w = shareOf (cfg).spec w :=
    fun c w hw => (rdat c).q_eq_shareOf_of_share_full kit.win.arr_inj (hshare c) w hw
  have kit₀ := kit.to₀
  exact RDat.θ_run_region_pf_tail_quiescent pcs a (RDat.familyOf pcs a p rdat) () (kit₀.cellOf_inj a) p kit₀.win
    (OwnSemFacts.none (cfg).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs a) (kit₀.cellOf_inj a)) (launchToks (pin pcs a) (kit₀.cellOf_inj a)))
    (hu₀ := by
      iintro Hu; imodintro
      isplitl [Hu]
      · iapply (show (ownU _ : sProp 𝕄) ⊢ BI.own (emb₁ (initOf (cells (pin pcs a) (kit₀.cellOf_inj a)) (launchToks (pin pcs a) (kit₀.cellOf_inj a)))) from .rfl)
        iexact Hu
      · iapply (show (BI.emp : sProp 𝕄) ⊢ bigSep Finset.univ (fun _ : Dev nD => (BI.emp : sProp 𝕄)) from by rw [BI.bigSep_emp_const])
        iempintro)
    (V := fun c b => V₀ c (Proc.devRef .tc b)) (hmain := hmain)
    (hsplit := fun c => by
      rw [RDat.familyOf_self]
      exact (rdat c).arrays_split_shared kit₀.sharedIn kit₀.arr_whole (hq c) (fun b => V₀ c (Proc.devRef .tc b)) _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (cfg).spec c
      (fun b => V₀ c (Proc.devRef .tc b)))
    (Z' := fun c => unscopedRestP (Ix := Unit) (Name := ℕ) (U := UR sig nD τ) (Lvl := ℕ) (pcs p).pre (cfg).spec c
      (tailValue pcs a p V₀ opss B c))
    (hX := fun c => by
      iintro ⟨HU, -, -, Hp, -⟩; imodintro
      isplitl [Hp]
      · iexists _; iexact Hp
      · iexact HU)
    (hin := fun c => by
      rw [RDat.familyOf_self]
      refine Entails.trans ?_ (hin c)
      unfold ΦA ΦT
      iintro ⟨Hp, Ht, Hr⟩
      isplitr [Ht]
      · isplitl [Hr] <;> iassumption
      · iexact Ht)
    (hout := fun c => by
      rw [RDat.familyOf_self]
      refine (hout c).trans ?_
      rw [ownSems0_none]; unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (arraysAt_named (rdat c) (B c) (hB c)) $$ Ha
      icases Ha' with ⟨%hAt, Ha⟩
      have hbufs : (rdat c).arrays (B c) = arrBufs (cfg).spec c (fun b => withArrays (cfg).spec c (V₀ c) (B c) (Proc.devRef .tc b)) :=
        ((rdat c).arrBufs_eq_arrays kit₀.sharedIn kit₀.arr_whole (hq c) _ (B c) fun w =>
          (withArrays_arr_shared (cfg).spec c (V₀ c) (B c) ((rdat c).ArrAt_sharedIn kit₀.sharedIn (V₀ c) (hA c) (cfg).N (B c) hAt) w).symm).symm
      iapply (tail_seqs_bufs_b pcs defs₀ 𝒱₀ (pcs p).pre (cfg).spec c (V₀ c) (B c) opss hsub hfresh hkeep Q')
      isplitl [Hk]
      · iintro ⟨Hb2, Ha2, Hu⟩
        iapply Hk
        isplitl [Hb2]; · iexact Hb2
        isplitl [Ha2]
        · iapply (arraysAt_of_named (rdat c) (B c) hAt); iapply (Entails.of_eq hbufs.symm); iexact Ha2
        · iexact Hu
      · isplitl [Hb]; · iexact Hb
        isplitl [Ha]; · iapply (Entails.of_eq hbufs); iexact Ha
        iexact HZ)
    (QY := fun c s => ∀ b ∈ restRefsP sig (pcs p).pre (cfg).spec, s.mem ((c.tc : Thread nD τ).loc b) = tailValue pcs a p V₀ opss B c b)
    (hY := fun c s' => by
      iintro ⟨-, HZ, HSI⟩
      unfold unscopedRestP
      imodintro
      iapply (pointsTo_read_all (restRefsP sig (pcs p).pre (cfg).spec) (fun b => (c.tc : Thread nD τ).loc b) (tailValue pcs a p V₀ opss B c) s')
      isplitl [HZ] <;> iassumption)
    (hQ := fun s h hz => ⟨fun c => ⟨fun w => hB c w _ (by simpa only [RDat.familyOf_self] using (h c).1 w), (h c).2.2⟩, hz⟩)

end Cert.Router

end
-- ==== Proof.Region.lean ====
/-
  The pipelined region: what the output arrays hold at its end, given the arrays it starts from.
-/
module

public import proofs.«01_k».proof.Proof.Body
public import proofs.«01_k».proof.Proof.Launch
public import Idealize.ShloMosaic.Lib.Pipeline.DatRel
public import Idealize.ShloMosaic.Lib.Pipeline.ArrRel

@[expose] public section

set_option maxRecDepth 16384

noncomputable section

namespace Cert.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ (UR sig nD τ) ℕ

/-! ## Arrays put together from their blocks -/

/-- The point whose block holds column `n`. -/
def pointOf (n : Nat) (h : n < 8192) : Fin cfg0.N := ⟨n / 1024, by have := N_0; show n / 1024 < grid0.N; omega⟩

/-- The array whose columns are, block after block, those that `f` gives. -/
def assembled {α : Type} (f : Fin cfg0.N → S16x1024.Idx → α) : S16x8192.Idx → α := fun y =>
  f (pointOf (y 1).val (y 1).isLt) (ix2 (n0 := 16) (n1 := 1024) (y 0) ⟨(y 1).val % 1024, Nat.mod_lt _ (by decide)⟩)

/-- The first `n` blocks of columns of two arrays agree. -/
def UpTo {α : Type} (n : Nat) (f x : S16x8192.Idx → α) : Prop := ∀ y, (y 1).val < 1024 * n → x y = f y

theorem upTo_put {α : Type} (f : Fin cfg0.N → S16x1024.Idx → α) (t : Fin cfg0.N) (x : S16x8192.Idx → α)
    (h : UpTo t.val (assembled f) x) : UpTo (t.val + 1) (assembled f) (put t.val (f t) x) := fun y hy => by
  unfold put
  split
  · next e =>
    have : t = pointOf (y 1).val (y 1).isLt := Fin.ext e.symm
    unfold assembled
    rw [← this]
  · next e => exact h y (by omega)

theorem upTo_all {α : Type} (f x : S16x8192.Idx → α) (h : UpTo 8 f x) : x = f :=
  funext fun y => h y (by have h1 : (y 1).val < 8192 := (y 1).isLt; omega)

/-- The grid has one axis, so a point's coordinate is its number. -/
theorem coord_val (t : Fin cfg0.N) : ((grid0.coords t) 0).val = t.val := by
  have h : ∀ t : Fin grid0.N, ((grid0.coords t) 0).val = t.val := by decide
  exact h t

variable (m : (ℓ : Loc nD τ sig) → Buf (Elt F) ℓ)

/-- What the three output arrays hold at the end. -/
def maskArr (c : Dev nD) : S16x8192.Idx → Elt F .i32 := assembled fun t => k0_pay4 (iblk m c 0 t) (iblk m c 1 t)
def probArr (c : Dev nD) : S16x8192.Idx → Elt F .f32 := assembled fun t => k0_pay3 (iblk m c 0 t) (iblk m c 1 t)
def logitArr (c : Dev nD) : S16x8192.Idx → Elt F .f32 := assembled fun t => k0_pay1 (iblk m c 0 t) (iblk m c 1 t)

/-! ## The proof data -/

/-- The windows of the outputs. -/
def outWin : Fin 5 → Bool := fun w => w.val == 2 || w.val == 3 || w.val == 4

/-- The part of the data that is named outright: the arrays, and the inputs' blocks. -/
def inData (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- After point `t` the blocks of columns up to the `t`-th hold their final values. -/
def Written (c : Dev nD) : (w : Fin cfg0.W) → Fin cfg0.N → ((cfg0.win w).block.Idx → Elt F (cfg0.win w).elt) → Prop
  | ⟨0, _⟩, _, _ => True
  | ⟨1, _⟩, _, _ => True
  | ⟨2, _⟩, t, X => UpTo (t.val + 1) (maskArr m c) X
  | ⟨3, _⟩, t, X => UpTo (t.val + 1) (probArr m c) X
  | ⟨4, _⟩, t, X => UpTo (t.val + 1) (logitArr m c) X

/-- The data of the region. -/
abbrev data (c : Dev nD) : RDat τ (Elt F) Unit ℕ (UR sig nD τ) ℕ cfg0 c := (inData m c).toRRel outWin (Written m c)

theorem inData_A (c : Dev nD) (w : Fin cfg0.W) : (inData m c).A w = V m c (Pipeline.arrRef spec0 w) := by
  dsimp only [inData]
theorem after_h (c : Dev nD) (t : Fin cfg0.N) : (inData m c).after 0 t = iblk m c 0 t := by dsimp only [inData]
theorem after_W (c : Dev nD) (t : Fin cfg0.N) : (inData m c).after 1 t = iblk m c 1 t := by dsimp only [inData]
theorem before_h (c : Dev nD) (t : Fin cfg0.N) (d) : (inData m c).before 0 t d = iblk m c 0 t :=
  before0_0_of m (inData m c) (inData_A m c 0) (after_h m c) t d
theorem before_W (c : Dev nD) (t : Fin cfg0.N) (d) : (inData m c).before 1 t d = iblk m c 1 t :=
  before0_1_of m (inData m c) (inData_A m c 1) (after_W m c) t d

/-- The body finds an output window as the point before left it: the earlier blocks already hold their final values. -/
theorem found (c : Dev nD) (w : Fin cfg0.W) (hw : outWin w = true) (hfetch : ∀ t, (cfg0.win w).fetch t = false)
    (hflush : ∀ t, (cfg0.win w).flush t = true → t.val % 8 = 7) (t : Fin cfg0.N)
    (X : (cfg0.win w).block.Idx → Elt F (cfg0.win w).elt) (h : (data m c).Finds w t X) :
    t.val = 0 ∨ ∃ u : Fin cfg0.N, u.val + 1 = t.val ∧ Written m c w u X := by
  by_cases ht : t.val = 0
  · exact .inl ht
  · have h8 := N_0
    have hlt : t.val < grid0.N := t.isLt
    rcases ((data m c).finds_of_pos (hfetch t) ht X).1 h with h' | h'
    · have := hflush _ h'
      simp only at this
      omega
    · exact .inr ⟨_, by show t.val - 1 + 1 = t.val; omega, (inData m c).toRRel_leaves hw h'⟩

theorem found_mask (c : Dev nD) (t : Fin cfg0.N) (X) (h : (data m c).Finds 2 t X) : UpTo t.val (maskArr m c) X := by
  rcases found m c 2 rfl (fun _ => rfl) (fun t => (flush0_2 t).1) t X h with h0 | ⟨u, hu, hX⟩
  · intro y hy; omega
  · rw [← hu]; exact hX
theorem found_prob (c : Dev nD) (t : Fin cfg0.N) (X) (h : (data m c).Finds 3 t X) : UpTo t.val (probArr m c) X := by
  rcases found m c 3 rfl (fun _ => rfl) (fun t => (flush0_3 t).1) t X h with h0 | ⟨u, hu, hX⟩
  · intro y hy; omega
  · rw [← hu]; exact hX
theorem found_logit (c : Dev nD) (t : Fin cfg0.N) (X) (h : (data m c).Finds 4 t X) : UpTo t.val (logitArr m c) X := by
  rcases found m c 4 rfl (fun _ => rfl) (fun t => (flush0_4 t).1) t X h with h0 | ⟨u, hu, hX⟩
  · intro y hy; omega
  · rw [← hu]; exact hX

/-! ## The body's obligation -/

/-- What the body is called with at point `t`. -/
def pre (c : Dev nD) (t : Fin cfg0.N) : sProp 𝕄 :=
  iprop((inData m c).Φ t.castSucc ∗ (inData m c).owesAt () t.castSucc
    ∗ (∃ d, owns (c : Thread nD τ) (st0_0 t) fullShare ((inData m c).before 0 t d))
    ∗ (∃ d, owns (c : Thread nD τ) (st0_1 t) fullShare ((inData m c).before 1 t d))
    ∗ (∃ Y, ⌜(data m c).Finds 2 t Y⌝ ∗ owns (c : Thread nD τ) (st0_2 t) fullShare Y)
    ∗ (∃ Y, ⌜(data m c).Finds 3 t Y⌝ ∗ owns (c : Thread nD τ) (st0_3 t) fullShare Y)
    ∗ (∃ Y, ⌜(data m c).Finds 4 t Y⌝ ∗ owns (c : Thread nD τ) (st0_4 t) fullShare Y))

/-- What it gives back. -/
def post (c : Dev nD) (t : Fin cfg0.N) : sProp 𝕄 :=
  iprop((inData m c).Φ t.succ ∗ (inData m c).owesAt () t.succ
    ∗ owns (c : Thread nD τ) (st0_0 t) fullShare ((inData m c).after 0 t)
    ∗ owns (c : Thread nD τ) (st0_1 t) fullShare ((inData m c).after 1 t)
    ∗ (∃ X, ⌜Written m c 2 t X⌝ ∗ owns (c : Thread nD τ) (st0_2 t) fullShare X)
    ∗ (∃ X, ⌜Written m c 3 t X⌝ ∗ owns (c : Thread nD τ) (st0_3 t) fullShare X)
    ∗ (∃ X, ⌜Written m c 4 t X⌝ ∗ owns (c : Thread nD τ) (st0_4 t) fullShare X))

theorem body_ok (c : Dev nD) (t : Fin cfg0.N) :
    pre m c t ⊢ wp frame (wpE (defs₀ (F := F)) Variants.none c none) Set.univ (bodyAt0 t) (fun _ => post m c t) := by
  unfold pre post bodyAt0
  simp only [before_h, before_W]
  rw [show (inData m c).Φ t.succ = (inData m c).Φ t.castSucc from rfl,
    show (inData m c).owesAt () t.succ = (inData m c).owesAt () t.castSucc from rfl, after_h, after_W]
  iintro ⟨HΦ, Ho, ⟨%d0, H0⟩, ⟨%d1, H1⟩, ⟨%d2, %h2, H2⟩, ⟨%d3, %h3, H3⟩, ⟨%d4, %h4, H4⟩⟩
  iapply (body_run c (grid0.coords t) _ _ _ _ _ _ _ _ _ _ (iblk m c 0 t) (iblk m c 1 t) d2 d3 d4 Set.univ _)
  isplitl [H0]; · iexact H0
  isplitl [H1]; · iexact H1
  isplitl [H2]; · iexact H2
  isplitl [H3]; · iexact H3
  isplitl [H4]; · iexact H4
  rw [coord_val t]
  iintro ⟨H0, H1, H2, H3, H4⟩
  isplitl [HΦ]; · iexact HΦ
  isplitl [Ho]; · iexact Ho
  isplitl [H0]; · iexact H0
  isplitl [H1]; · iexact H1
  isplitl [H2]
  · iexists _; isplitr; swap; · iexact H2
    ipureintro
    exact upTo_put (fun t => k0_pay4 (iblk m c 0 t) (iblk m c 1 t)) t d2 (found_mask m c t d2 h2)
  isplitl [H3]
  · iexists _; isplitr; swap; · iexact H3
    ipureintro
    exact upTo_put (fun t => k0_pay3 (iblk m c 0 t) (iblk m c 1 t)) t d3 (found_prob m c t d3 h3)
  · iexists _; isplitr; swap; · iexact H4
    ipureintro
    exact upTo_put (fun t => k0_pay1 (iblk m c 0 t) (iblk m c 1 t)) t d4 (found_logit m c t d4 h4)

/-- The body table's row is the body. -/
theorem row_eq (t : Fin cfg0.N) : defs₀ (F := F) .tc cfg0.body (cfg0.bodyArgs t (cfg0.slots t)) = bodyAt0 t := by
  unfold defs₀; rw [Defs.onTc_tc]

theorem obligation (c : Dev nD) :
    BodyObligationRel (inData (F := F) m c) (defs₀ (F := F)) Variants.none () Set.univ outWin (Written m c) := fun t => by
  rw [bigSep_W0, bigSep_W0, row_eq]
  exact triple_restated (body_ok m c t) rfl .rfl fun _ => .rfl

/-! ## The arrays at the end -/

/-- What every array of the pipeline holds at the end. -/
def finals (c : Dev nD) : (w : Fin cfg0.W) → Buf (Elt F) ((cfg0.win w).arr.view.loc (c.tc : Thread nD τ))
  | ⟨0, _⟩ => V m c main_arg0
  | ⟨1, _⟩ => V m c main_arg1
  | ⟨2, _⟩ => maskArr m c
  | ⟨3, _⟩ => probArr m c
  | ⟨4, _⟩ => logitArr m c

theorem final_mask (c : Dev nD) (G) (hG : (data m c).ArrAt 2 cfg0.N G) : G = maskArr m c := by
  obtain ⟨X, hX, hj⟩ := hG.emb_eq_of_wholeAt (t₀ := t0_7) (by decide +kernel)
  have hX : X = maskArr m c := upTo_all _ _ ((inData m c).toRRel_leaves (w := 2) rfl hX)
  subst hX
  exact funext fun j => hj j
theorem final_prob (c : Dev nD) (G) (hG : (data m c).ArrAt 3 cfg0.N G) : G = probArr m c := by
  obtain ⟨X, hX, hj⟩ := hG.emb_eq_of_wholeAt (t₀ := t0_7) (by decide +kernel)
  have hX : X = probArr m c := upTo_all _ _ ((inData m c).toRRel_leaves (w := 3) rfl hX)
  subst hX
  exact funext fun j => hj j
theorem final_logit (c : Dev nD) (G) (hG : (data m c).ArrAt 4 cfg0.N G) : G = logitArr m c := by
  obtain ⟨X, hX, hj⟩ := hG.emb_eq_of_wholeAt (t₀ := t0_7) (by decide +kernel)
  have hX : X = logitArr m c := upTo_all _ _ ((inData m c).toRRel_leaves (w := 4) rfl hX)
  subst hX
  exact funext fun j => hj j

theorem finals_only (c : Dev nD) (w : Fin cfg0.W) (G) (hG : (data m c).ArrAt w cfg0.N G) : G = finals m c w := by
  match w with
  | ⟨0, _⟩ => exact (congrFun ((data m c).ArrAt_in 0 rfl cfg0.N) G).mp hG
  | ⟨1, _⟩ => exact (congrFun ((data m c).ArrAt_in 1 rfl cfg0.N) G).mp hG
  | ⟨2, _⟩ => exact final_mask m c G hG
  | ⟨3, _⟩ => exact final_prob m c G hG
  | ⟨4, _⟩ => exact final_logit m c G hG

end Cert.Router

end
-- ==== Proof.KernelRun.lean ====
/-
  The kernel's run: its arguments end as they were, its results are the three output arrays transposed, the first
  compared with zero, and every counter ends at zero.
-/
module

public import proofs.«01_k».proof.Proof.Region

@[expose] public section

set_option maxRecDepth 16384

noncomputable section

namespace Cert.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (g : Dev nD → PrngReg)

set_option backward.isDefEq.respectTransparency.types false in
set_option maxHeartbeats 1600000 in
theorem run_finals :
    θ_run defs (onTc (τ := τ) (main (F := F))) (s₀ m g) (fun r =>
      (∀ c : Dev nD, (∀ w, r.2.mem ((spec0 w).arr.view.loc (c.tc : Thread nD τ)) = finals m c w)
        ∧ ∀ b ∈ restRefsP sig Pipeline.Prefetch.none spec0,
            r.2.mem ((c.tc : Thread nD τ).loc b)
              = StableHlo.after [hostOps1 (F := F)].flatten (withArrays spec0 c (V0 m c) (finals m c)) (Proc.devRef .tc b))
      ∧ r.2.sem = fun _ => 0) :=
  run_named (fun q => (cfgs q).toPCfg (Val := Elt F)) (fun q => (cfgs q).toPCfg_adm) 0 launch0.toP defs₀ Variants.none
    (data m) (finals m) (finals_only m) m g main (fun c => (obligation m c).toRRel)
    (fun c => (inData m c).share_full fun _ => rfl) (fun _ _ => rfl) (V0 m) [hostOps1] sfx_sub sfx_fresh sfx_keeps
    (hmain m Variants.none) (inData_A m) (fun _ k => k.elim0)
    (fun c => (show _ ⊢ ΦA spec0 c from by iintro ⟨H, -⟩; iexact H))
    (fun _ => .rfl)

theorem arr_inj : Function.Injective (arrRef spec0) := launch0.win.arr_inj

/-- What the first result holds at the end, … -/
def maskOut (c : Dev nD) : S8192x16.Idx → Elt F .i1 :=
  transpose S8192x16 [1, 0] (cmpi .ne (maskArr m c) (broadcastInDim S16x8192 ![] bcast_S_S16x8192 (constantI S_ 32 0#32)))
    transposes_S16x8192_S8192x16_1_0
/-- … the second … -/
def probOut (c : Dev nD) : S8192x16.Idx → Elt F .f32 :=
  transpose S8192x16 [1, 0] (probArr m c) transposes_S16x8192_S8192x16_1_0
/-- … and the third. -/
def logitOut (c : Dev nD) : S8192x16.Idx → Elt F .f32 :=
  transpose S8192x16 [1, 0] (logitArr m c) transposes_S16x8192_S8192x16_1_0

theorem tail_mask (c : Dev nD) :
    StableHlo.after [hostOps1 (F := F)].flatten (withArrays spec0 c (V0 m c) (finals m c)) (Proc.devRef .tc main_v0_0) = maskOut m c := by
  have h : withArrays spec0 c (V0 m c) (finals m c) (Proc.devRef .tc main_call0_v0_0) = maskArr m c :=
    withArrays_arr spec0 arr_inj c (V0 m c) (finals m c) 2
  simp only [List.flatten_cons, List.flatten_nil, List.append_nil, hostOps1, StableHlo.TRef.binary, StableHlo.TRef.nullary, StableHlo.TRef.unary, StableHlo.TRef.toBuf, StableHlo.TRef.ofBuf, cast_eq]
  after_results_simp
  rw [h]
  rfl

theorem tail_prob (c : Dev nD) :
    StableHlo.after [hostOps1 (F := F)].flatten (withArrays spec0 c (V0 m c) (finals m c)) (Proc.devRef .tc main_v0_1) = probOut m c := by
  have h : withArrays spec0 c (V0 m c) (finals m c) (Proc.devRef .tc main_call0_v0_1) = probArr m c :=
    withArrays_arr spec0 arr_inj c (V0 m c) (finals m c) 3
  simp only [List.flatten_cons, List.flatten_nil, List.append_nil, hostOps1, StableHlo.TRef.binary, StableHlo.TRef.nullary, StableHlo.TRef.unary, StableHlo.TRef.toBuf, StableHlo.TRef.ofBuf, cast_eq]
  after_results_simp
  rw [h]
  rfl

theorem tail_logit (c : Dev nD) :
    StableHlo.after [hostOps1 (F := F)].flatten (withArrays spec0 c (V0 m c) (finals m c)) (Proc.devRef .tc main_v0_2) = logitOut m c := by
  have h : withArrays spec0 c (V0 m c) (finals m c) (Proc.devRef .tc main_call0_v0_2) = logitArr m c :=
    withArrays_arr spec0 arr_inj c (V0 m c) (finals m c) 4
  simp only [List.flatten_cons, List.flatten_nil, List.append_nil, hostOps1, StableHlo.TRef.binary, StableHlo.TRef.nullary, StableHlo.TRef.unary, StableHlo.TRef.toBuf, StableHlo.TRef.ofBuf, cast_eq]
  after_results_simp
  rw [h]
  rfl

/-- The run, read at the arguments and the results. -/
theorem kernel_run :
    θ_run defs (onTc (τ := τ) (main (F := F))) ⟨m, fun _ => 0, g⟩ (fun r =>
      (∀ c : Dev nD,
        r.2.mem ((c.tc : Thread nD τ).loc main_v0_0) = maskOut m c
        ∧ r.2.mem ((c.tc : Thread nD τ).loc main_v0_1) = probOut m c
        ∧ r.2.mem ((c.tc : Thread nD τ).loc main_v0_2) = logitOut m c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_v0_0 (by decide)).trans (tail_mask m c), ((h.1 c).2 main_v0_1 (by decide)).trans (tail_prob m c),
      ((h.1 c).2 main_v0_2 (by decide)).trans (tail_logit m c), (h.1 c).1 0, (h.1 c).1 1⟩, h.2⟩) (run_finals m g)

end Cert.Router

end
-- ==== Proof.Blocks.lean ====
/-
  The blocks a grid point reads, at an index: a thousand and twenty-four tokens of `h`, and all of `W`.
-/
module

public import proofs.«01_k».proof.Proof.Region
public import Idealize.ShloMosaic.Lib.Pointwise
public import Idealize.ShloMosaic.Lib.Pipeline.ValueKit

@[expose] public section

set_option maxRecDepth 16384

noncomputable section

namespace Cert.Router

open Idealize.ShloMosaic Idealize.ShloMosaic.TcCoe Idealize.ShloMosaic.Tactic
open Cert.KernelIdeal Cert.KernelIdeal.Gen

variable {F : FTy → Type} [FloatOps F]

variable (m : (ℓ : Loc nD τ sig) → Buf (Elt F) ℓ)

theorem index_h (t : Fin cfg0.N) : win0_0.index t 0 = t.val ∧ win0_0.index t 1 = 0 := by
  revert t
  decide +kernel

theorem index_W (t : Fin cfg0.N) : win0_1.index t 0 = 0 ∧ win0_1.index t 1 = 0 := by
  revert t
  decide +kernel

theorem token_lt (t : Fin cfg0.N) (r : Fin 1024) : 1024 * t.val + r.val < 8192 := by
  have : cfg0.N = 8 := by decide
  have := t.isLt
  have := r.isLt
  omega

theorem block_h (c : Dev nD) (t : Fin cfg0.N) (r : Fin 1024) (k : Fin 2048) :
    iblk m c 0 t (ix2 r k) = m ((c.tc : Thread nD τ).loc main_arg0) (ix2 ⟨1024 * t.val + r.val, token_lt t r⟩ k) := by
  obtain ⟨e0, e1⟩ := index_h t
  blk_simp [iblk]
  refine congrArg (m _) ?_
  blk_ext [e0, e1]

theorem block_W (c : Dev nD) (t : Fin cfg0.N) (e : Fin 16) (k : Fin 2048) :
    iblk m c 1 t (ix2 e k) = m ((c.tc : Thread nD τ).loc main_arg1) (ix2 e k) := by
  obtain ⟨e0, e1⟩ := index_W t
  blk_simp [iblk]
  refine congrArg (m _) ?_
  blk_ext [e0, e1]

end Cert.Router

end
-- ==== Proof.Payload.lean ====
/-
  What one block computes, read at an expert and a token of the block: the logits, the softmax over the experts and the
  mask word, each from the scores of the one token.
-/
module

public import proofs.«01_k».proof.Proof.Gen.KernelIdeal.Skeleton
public import Idealize.ShloMosaic.Lib.Pointwise

@[expose] public section

set_option maxRecDepth 16384

noncomputable section

namespace Cert.Router

open Idealize.ShloMosaic Cert.KernelIdeal Cert.KernelIdeal.Gen

/-- The value a running maximum starts from and a picked score is overwritten with. -/
def low : EReal := Ideal.ofBits .f32 0xFF800000#32

/-- The largest of a token's sixteen scores. -/
def top (f : Fin 16 → EReal) : EReal := Finset.univ.fold max low f

/-- A token's softmax weight for expert `e`. -/
def weight (f : Fin 16 → EReal) (e : Fin 16) : EReal :=
  Ideal.div (Ideal.exp (f e - top f)) (∑ q, Ideal.exp (f q - top f))

/-- The least position holding the largest score, as the word the kernel computes. -/
def pickWord (f : Fin 16 → EReal) : BitVec 32 :=
  Finset.univ.fold IntOp.minsi 2147483647#32 fun q => if f q = top f then BitVec.ofNat 32 q.val else 16#32

/-- Whether expert `e` is the one picked. -/
def pickBit (f : Fin 16 → EReal) (e : Fin 16) : BitVec 1 := IntOp.cmpi .eq (BitVec.ofNat 32 e.val) (pickWord f)

/-- The scores with the picked one overwritten. -/
def rest (f : Fin 16 → EReal) : Fin 16 → EReal := fun q => Scalar.select (pickBit f q) low (f q)

/-- The mask of two picks. -/
def maskBit (f : Fin 16 → EReal) (e : Fin 16) : BitVec 1 := IntOp.ori (pickBit f e) (pickBit (rest f) e)

theorem logit_at (x : Vec Ideal S1024x2048 .f32) (w : Vec Ideal S16x2048 .f32) (e : Fin 16) (r : Fin 1024) :
    k0_pay1 x w (ix2 e r) = ∑ k : Fin 2048, w (ix2 e k) * x (ix2 r k) := by
  pointwise [k0_pay1]

theorem prob_at (x : Vec Ideal S1024x2048 .f32) (w : Vec Ideal S16x2048 .f32) (e : Fin 16) (r : Fin 1024) :
    k0_pay3 x w (ix2 e r) = weight (fun q => k0_pay1 x w (ix2 q r)) e := by
  unfold k0_pay3 k0_pay2
  generalize k0_pay1 x w = l
  pointwise
  rfl

theorem mask_at (x : Vec Ideal S1024x2048 .f32) (w : Vec Ideal S16x2048 .f32) (e : Fin 16) (r : Fin 1024) :
    k0_pay4 x w (ix2 e r) = (maskBit (fun q => k0_pay1 x w (ix2 q r)) e).setWidth 32 := by
  unfold k0_pay4 k0_pay2
  generalize k0_pay1 x w = l
  pointwise
  rfl

end Cert.Router

end
-- ==== Proof.Picks.lean ====
/-
  The two picks. The kernel finds the first largest score, overwrites it, and finds the first largest of what is left; the
  reference takes the first two positions of a stable sort. On scores none of which is minus infinity they are the same.
-/
module

public import proofs.«01_k».proof.Proof.Payload
public import Idealize.ShloMosaic.Lib.SortPrefix

@[expose] public section

set_option maxRecDepth 16384

noncomputable section

namespace Cert.Router

open Idealize.ShloMosaic

theorem low_eq : low = ⊥ := by
  simp [low, Ideal.ofBits, Ideal.ieee]

/-- `a` is the first position of the largest score. -/
def First (f : Fin 16 → EReal) (a : Fin 16) : Prop := (∀ q, f q ≤ f a) ∧ ∀ q, q < a → f q < f a

theorem exists_first (f : Fin 16 → EReal) : ∃ a, First f a := by
  obtain ⟨m, hm⟩ := Finite.exists_max f
  have hne : (Finset.univ.filter fun q => f q = f m).Nonempty := ⟨m, by simp⟩
  have ha : f ((Finset.univ.filter fun q => f q = f m).min' hne) = f m := by
    have := Finset.min'_mem _ hne
    simpa using this
  have least : ∀ q, f q = f m → (Finset.univ.filter fun q => f q = f m).min' hne ≤ q := fun q hq =>
    Finset.min'_le _ q (Finset.mem_filter.mpr ⟨Finset.mem_univ q, hq⟩)
  generalize (Finset.univ.filter fun q => f q = f m).min' hne = a at ha least
  exact ⟨a, fun q => ha ▸ hm q, fun q hq =>
    lt_of_le_of_ne (ha ▸ hm q) fun e => absurd (least q (e.trans ha)) (not_le.mpr hq)⟩

theorem top_of_first {f : Fin 16 → EReal} {a : Fin 16} (h : First f a) : top f = f a := by
  refine le_antisymm (Finset.fold_max_le _ |>.mpr ⟨low_eq ▸ bot_le, fun q _ => h.1 q⟩) ?_
  exact (Finset.le_fold_max _).mpr (Or.inr ⟨a, Finset.mem_univ _, le_rfl⟩)

theorem toInt_minsi (a b : BitVec 32) : (IntOp.minsi a b).toInt = min a.toInt b.toInt := by
  simp only [IntOp.minsi, BitVec.slt]
  split <;> rename_i h <;> simp at h <;> omega

theorem toInt_small (q : Fin 16) : (BitVec.ofNat 32 q.val).toInt = q.val := by
  revert q
  decide

theorem pickWord_of_first {f : Fin 16 → EReal} {a : Fin 16} (h : First f a) : pickWord f = BitVec.ofNat 32 a.val := by
  apply BitVec.eq_of_toInt_eq
  rw [pickWord, ← Finset.fold_hom (op' := min) toInt_minsi, toInt_small, top_of_first h]
  refine le_antisymm ?_ ?_
  · refine (Finset.fold_min_le _).mpr (Or.inr ⟨a, Finset.mem_univ _, ?_⟩)
    rw [if_pos rfl, toInt_small]
  · refine (Finset.le_fold_min _).mpr ⟨?_, fun q _ => ?_⟩
    · have := a.isLt
      have e : (2147483647#32).toInt = 2147483647 := by decide
      omega
    · split
      · rename_i e
        rw [toInt_small]
        have : a ≤ q := not_lt.mp fun hq => absurd e (h.2 q hq).ne
        exact_mod_cast this
      · have := a.isLt
        have e : (16#32).toInt = 16 := by decide
        omega

theorem same_word (e a : Fin 16) :
    IntOp.cmpi .eq (BitVec.ofNat 32 e.val) (BitVec.ofNat 32 a.val) = BitVec.ofBool (decide (e = a)) := by
  revert e a
  decide

theorem pickBit_of_first {f : Fin 16 → EReal} {a : Fin 16} (h : First f a) (e : Fin 16) :
    pickBit f e = BitVec.ofBool (decide (e = a)) := by
  rw [pickBit, pickWord_of_first h, same_word]

theorem rest_of_first {f : Fin 16 → EReal} {a : Fin 16} (h : First f a) (q : Fin 16) :
    rest f q = if q = a then ⊥ else f q := by
  rw [rest, pickBit_of_first h, low_eq]
  by_cases e : q = a <;> simp [e, Scalar.select]

/-- The sort's comparison with ties broken by position. -/
def ahead (f : Fin 16 → EReal) (p q : Fin 16) : Bool :=
  decide (f q < f p) || (decide (f p = f q) && decide (p < q))

theorem ahead_total (f : Fin 16 → EReal) : StrictTotalBefore (ahead f) :=
  StrictTotalBefore.of_key_then_position (fun x y : EReal => decide (y < x)) f (fun x => by simp)
    (fun x y z hxy hyz => by simp only [decide_eq_true_eq] at *; exact hyz.trans hxy)
    (fun x y => by simp only [decide_eq_true_eq]; rcases lt_trichotomy x y with h | h | h <;> simp [h])

theorem stableSort_ahead (f : Fin 16 → EReal) (l : List (Fin 16)) (hl : l.Pairwise (· < ·)) :
    stableSort (fun p q => decide (f q < f p)) l = stableSort (ahead f) l := by
  induction l with
  | nil => rfl
  | cons a l ih =>
    rw [List.pairwise_cons] at hl
    rw [stableSort, stableSort, ih hl.2]
    refine insertBefore_congr _ _ a _ fun b hb => ?_
    have : a < b := hl.1 b ((perm_stableSort _ l).mem_iff.mp hb)
    simp [ahead, this.le]

theorem sortedFrom_of_list {n : Nat} (B B' : Fin n → Fin n → Bool) (h : sortPositions n B = sortPositions n B')
    (k : Fin n) : sortedFrom B k = sortedFrom B' k := by
  unfold sortedFrom
  rw [List.get_of_eq h]
  rfl

theorem sortedFrom_ahead (f : Fin 16 → EReal) (k : Fin 16) :
    sortedFrom (fun p q => decide (f q < f p)) k = sortedFrom (ahead f) k := by
  have h : sortPositions 16 (fun p q => decide (f q < f p)) = sortPositions 16 (ahead f) :=
    stableSort_ahead f _ (List.pairwise_lt_finRange 16)
  exact sortedFrom_of_list _ _ h k

/-- A position with the largest score among those other than `a`, and the first such. -/
theorem sortedFrom_two {f : Fin 16 → EReal} {a b : Fin 16} (ha : First f a) (hb : First (rest f) b)
    (hf : ∀ q, ⊥ < f q) (i : Fin 2) :
    sortedFrom (fun p q => decide (f q < f p)) (i.castLE (by decide)) = ![a, b] i := by
  have hr := rest_of_first ha
  have hne : a ≠ b := by
    rintro rfl
    obtain ⟨q, hq⟩ : ∃ q : Fin 16, q ≠ a := exists_ne a
    have := hb.1 q
    rw [hr, hr, if_neg hq, if_pos rfl] at this
    exact absurd (hf q) (not_lt.mpr this)
  have le : ∀ q, q ≠ a → f q ≤ f b := fun q hq => by
    have := hb.1 q
    rwa [hr, hr, if_neg hq, if_neg hne.symm] at this
  have lt : ∀ q, q ≠ a → q < b → f q < f b := fun q hq hqb => by
    have := hb.2 q hqb
    rwa [hr, hr, if_neg hq, if_neg hne.symm] at this
  have first : ∀ p, ahead f p a = false := fun p => by
    simp only [ahead, Bool.or_eq_false_iff, Bool.and_eq_false_iff, decide_eq_false_iff_not]
    exact ⟨not_lt.mpr (ha.1 p), or_iff_not_imp_right.mpr fun h => (ha.2 p (not_not.mp h)).ne⟩
  have second : ∀ p, p ≠ a → ahead f p b = false := fun p hp => by
    simp only [ahead, Bool.or_eq_false_iff, Bool.and_eq_false_iff, decide_eq_false_iff_not]
    exact ⟨not_lt.mpr (le p hp), or_iff_not_imp_right.mpr fun h => (lt p hp (not_not.mp h)).ne⟩
  rw [sortedFrom_ahead]
  refine (ahead_total f).sortedFrom_eq_of_prefix (by decide) ![a, b] ?_ ?_ ?_ i
  · intro i j h
    fin_cases i <;> fin_cases j <;> simp_all
  · intro i j h
    fin_cases i <;> fin_cases j <;> simp_all
  · intro i p hp
    have hpa : p ≠ a := fun e => hp 0 e.symm
    fin_cases i
    · exact first p
    · exact second p hpa

/-- The kernel's two picks are the first two positions of the stable sort. -/
theorem maskBit_eq (f : Fin 16 → EReal) (hf : ∀ q, ⊥ < f q) (e : Fin 16) :
    maskBit f e = IntOp.ori
      (IntOp.cmpi .eq (BitVec.ofNat 32 e.val)
        (BitVec.ofNat 32 (sortedFrom (fun p q => decide (f q < f p)) ((0 : Fin 2).castLE (by decide))).val))
      (IntOp.cmpi .eq (BitVec.ofNat 32 e.val)
        (BitVec.ofNat 32 (sortedFrom (fun p q => decide (f q < f p)) ((1 : Fin 2).castLE (by decide))).val)) := by
  obtain ⟨a, ha⟩ := exists_first f
  obtain ⟨b, hb⟩ := exists_first (rest f)
  rw [sortedFrom_two ha hb hf 0, sortedFrom_two ha hb hf 1, maskBit, pickBit, pickBit, pickWord_of_first ha,
    pickWord_of_first hb]
  rfl

end Cert.Router

end
-- ==== Proof.Reference.lean ====
/-
  What the reference computes, read at a token and an expert: the logits, the softmax and the two-pick mask.
-/
module

public import proofs.«01_k».proof.Proof.Gen.ReferenceIdeal.Run
public import proofs.«01_k».proof.Proof.Payload
public import Idealize.ShloMosaic.Lib.SortPrefix
public import Idealize.ShloMosaic.Lib.IdealHost

@[expose] public section

set_option maxRecDepth 16384

noncomputable section

namespace Cert.Router.Plain

open Idealize.ShloMosaic Cert.ReferenceIdeal Cert.ReferenceIdeal.Gen

/-- The reference's logits. -/
def logits (h : FVec Ideal S8192x2048 .f32) (w : FVec Ideal S16x2048 .f32) : FVec Ideal S8192x16 .f32 :=
  Host.dotGeneral dot_S8192x2048_S2048x16_S8192x16_1_0_0_1_n_n none h
    (transpose S2048x16 [1, 0] w transposes_S16x2048_S2048x16_1_0)

/-- The logits over the temperature. -/
def scaled (l : FVec Ideal S8192x16 .f32) : FVec Ideal S8192x16 .f32 :=
  Host.divf l (broadcastInDim S8192x16 ![] bcast_S_S8192x16
    (id (maximumf (constant S_ .f32 0x358637BD#32) (constant S_ .f32 0x3F800000#32))))

/-- The exponentials of the scores less the row's largest. -/
def expo (s : FVec Ideal S8192x16 .f32) : FVec Ideal S8192x16 .f32 :=
  Host.exp (subf s (broadcastInDim S8192x16 ![0, 1] bcast_S8192x1_S8192x16_0_1
    (broadcastInDim S8192x1 ![0] bcast_S8192_S8192x1_0
      (maximumf (broadcastInDim S8192 ![] bcast_S_S8192 (constant S_ .f32 0xFF800000#32))
        (Host.reduce FloatOps.maximumf s (constant S_ .f32 0xFF800000#32) reducesTo_S8192x16_S8192_d1 h_S_)))))

/-- The reference's probabilities, from the scaled scores. -/
def probs (s : FVec Ideal S8192x16 .f32) : FVec Ideal S8192x16 .f32 :=
  Host.divf (expo s) (broadcastInDim S8192x16 ![0, 1] bcast_S8192x1_S8192x16_0_1
    (broadcastInDim S8192x1 ![0] bcast_S8192_S8192x1_0
      (Host.reduceAdd (expo s) (constant S_ .f32 0x00000000#32) reducesTo_S8192x16_S8192_d1 h_S_)))

/-- The positions of the two largest, as words. -/
def chosen (l : FVec Ideal S8192x16 .f32) : IVec S8192x2 32 :=
  (Host.topK S8192x2 1 (FloatOps.cmpfTotal .gt) l sliceFits_S8192x16_S8192x2).2

/-- The mask of a table of chosen positions. -/
def marks (p : IVec S8192x2 32) : IVec S8192x16 1 :=
  id (cmpf .une (Host.reduceAdd (F := Ideal) (uitofp .f32 (cmpi .eq
    (broadcastInDim S8192x2x16 ![0, 1, 2] bcast_S8192x2x1_S8192x2x16_0_1_2
      (broadcastInDim S8192x2x1 ![0, 1] bcast_S8192x2_S8192x2x1_0_1 p))
    (broadcastInDim S8192x2x16 ![0, 1, 2] bcast_S1x1x16_S8192x2x16_0_1_2 (iotaInDim S1x1x16 32 2))))
    (constant S_ .f32 0x00000000#32) reducesTo_S8192x2x16_S8192x16_d1 h_S_)
    (broadcastInDim S8192x16 ![] bcast_S_S8192x16 (constant S_ .f32 0x00000000#32)))

theorem logits_at (h : FVec Ideal S8192x2048 .f32) (w : FVec Ideal S16x2048 .f32) (n : Fin 8192) (e : Fin 16) :
    logits h w (ix2 n e) = ∑ k : Fin 2048, h (ix2 n k) * w (ix2 e k) := by
  pointwise [logits]

/-- The temperature the reference divides by: the larger of a millionth and one. -/
theorem temperature : max (Ideal.ofBits .f32 0x358637BD#32) 1 = 1 := by
  refine max_eq_right ?_
  rw [show (1 : EReal) = ((1 : ℝ) : EReal) by norm_cast]
  simp [Ideal.ofBits, Ideal.ieee, -EReal.coe_mul, -EReal.coe_one]
  norm_num

theorem div_one' (x : EReal) : Ideal.div x 1 = x := by
  rw [Ideal.div, if_neg one_ne_zero, inv_one, mul_one]

theorem scaled_at (l : FVec Ideal S8192x16 .f32) (n : Fin 8192) (e : Fin 16) : scaled l (ix2 n e) = l (ix2 n e) := by
  pointwise [scaled, id_eq]
  rw [temperature, div_one']

theorem scaled_eq (l : FVec Ideal S8192x16 .f32) : scaled l = l := by
  funext i
  rw [eq_ix2 i]
  exact scaled_at l _ _

/-- A running maximum is at least what it starts from. -/
theorem low_top (f : Fin 16 → EReal) : max low (top f) = top f :=
  max_eq_right ((Finset.le_fold_max _).mpr (Or.inl le_rfl))

theorem probs_at (s : FVec Ideal S8192x16 .f32) (n : Fin 8192) (e : Fin 16) :
    probs s (ix2 n e) = weight (fun q => s (ix2 n q)) e := by
  unfold weight
  rw [← low_top]
  pointwise [probs, expo]
  rfl

theorem cmpi_eq_comm (a b : BitVec 32) : IntOp.cmpi .eq a b = IntOp.cmpi .eq b a := by
  simp only [IntOp.cmpi, Bool.beq_comm]

/-- Two bits counted as numbers have a nonzero sum just when one of them is set. -/
theorem either_bit (a b : BitVec 1) :
    BitVec.ofBool (decide ((FloatOps.uitofp .f32 a : Ideal .f32) + (FloatOps.uitofp .f32 b : Ideal .f32) ≠ (0 : EReal)))
      = IntOp.ori a b := by
  have zero : (FloatOps.uitofp .f32 (0#1) : Ideal .f32) = (0 : EReal) := by
    simp [FloatOps.uitofp]
  have one : (FloatOps.uitofp .f32 (1#1) : Ideal .f32) = (1 : EReal) := by
    simp [FloatOps.uitofp]
  have two : (1 : EReal) + 1 ≠ 0 := by norm_num
  rcases BitVec.eq_zero_or_eq_one a with rfl | rfl <;> rcases BitVec.eq_zero_or_eq_one b with rfl | rfl <;>
    simp [zero, one, two, IntOp.ori]

theorem marks_at (p : IVec S8192x2 32) (n : Fin 8192) (e : Fin 16) :
    marks p (ix2 n e) = IntOp.ori (IntOp.cmpi .eq (BitVec.ofNat 32 e.val) (p (ix2 n 0)))
      (IntOp.cmpi .eq (BitVec.ofNat 32 e.val) (p (ix2 n 1))) := by
  pointwise [marks, id_eq]
  rw [Fin.sum_univ_two, cmpi_eq_comm (p (ix2 n 0)), cmpi_eq_comm (p (ix2 n 1))]
  exact either_bit _ _

theorem along_pair (n : Fin 8192) (a q : Fin 16) :
    Shape.Idx.along (s := S8192x16) (ix2 n a) 1 q = ix2 n q := by
  funext d
  fin_cases d <;> rfl

theorem chosen_at (l : FVec Ideal S8192x16 .f32) (n : Fin 8192) (i : Fin 2) :
    chosen l (ix2 n i) = BitVec.ofNat 32 (sortedFrom (fun q q' : Fin 16 =>
      Ideal.cmp .ogt (l (ix2 n q)) (l (ix2 n q')) == 1#1) (i.castLE (by decide))).val := by
  unfold chosen Host.topK Host.sort2
  pointwise
  simp only [along_pair]
  rfl

end Cert.Router.Plain

end
-- ==== Proof.Results.lean ====
/-
  The kernel's three results at a token and an expert, and that they are the reference's.
-/
module

public import proofs.«01_k».proof.Proof.KernelRun
public import proofs.«01_k».proof.Proof.Blocks
public import proofs.«01_k».proof.Proof.Picks
public import proofs.«01_k».proof.Proof.Reference

@[expose] public section

set_option maxRecDepth 16384

noncomputable section

namespace Cert.Router

open Idealize.ShloMosaic Idealize.ShloMosaic.TcCoe Idealize.ShloMosaic.Tactic
open Cert.KernelIdeal Cert.KernelIdeal.Gen

variable (m : (ℓ : Loc nD τ sig) → Buf (Elt Ideal) ℓ)

/-- The tokens the kernel is called on. -/
abbrev tokens (c : Dev nD) : FVec Ideal S8192x2048 .f32 := m ((c.tc : Thread nD τ).loc main_arg0)

/-- The router's weights the kernel is called on. -/
abbrev weights (c : Dev nD) : FVec Ideal S16x2048 .f32 := m ((c.tc : Thread nD τ).loc main_arg1)

/-- A token's sixteen logits, as the reference computes them. -/
def scores (c : Dev nD) (n : Fin 8192) (e : Fin 16) : EReal := Plain.logits (tokens m c) (weights m c) (ix2 n e)

/-- The token's column in its block. -/
abbrev column (n : Fin 8192) : Fin 1024 := ⟨n.val % 1024, Nat.mod_lt _ (by decide)⟩

theorem place (n : Fin 8192) (h : 1024 * (pointOf n.val n.isLt).val + (column n).val < 8192) :
    (⟨1024 * (pointOf n.val n.isLt).val + (column n).val, h⟩ : Fin 8192) = n :=
  Fin.ext (Nat.div_add_mod n.val 1024)

theorem block_scores (c : Dev nD) (n : Fin 8192) (e : Fin 16) :
    k0_pay1 (iblk m c 0 (pointOf n.val n.isLt)) (iblk m c 1 (pointOf n.val n.isLt)) (ix2 e (column n))
      = scores m c n e := by
  rw [logit_at, scores, Plain.logits_at]
  refine Finset.sum_congr rfl fun k _ => ?_
  rw [block_h, block_W, place, mul_comm]

theorem logitOut_at (c : Dev nD) (n : Fin 8192) (e : Fin 16) : logitOut m c (ix2 n e) = scores m c n e := by
  rw [← block_scores]
  pointwise [logitOut]
  rfl

theorem probOut_at (c : Dev nD) (n : Fin 8192) (e : Fin 16) : probOut m c (ix2 n e) = weight (scores m c n) e := by
  have : scores m c n = fun q => k0_pay1 (iblk m c 0 (pointOf n.val n.isLt)) (iblk m c 1 (pointOf n.val n.isLt))
      (ix2 q (column n)) := funext fun q => (block_scores m c n q).symm
  rw [this, ← prob_at]
  pointwise [probOut]
  rfl

theorem nonzero_bit (b : BitVec 1) : IntOp.cmpi .ne (b.setWidth 32) 0#32 = b := by
  revert b
  decide

theorem maskOut_at (c : Dev nD) (n : Fin 8192) (e : Fin 16) : maskOut m c (ix2 n e) = maskBit (scores m c n) e := by
  have : scores m c n = fun q => k0_pay1 (iblk m c 0 (pointOf n.val n.isLt)) (iblk m c 1 (pointOf n.val n.isLt))
      (ix2 q (column n)) := funext fun q => (block_scores m c n q).symm
  rw [this, ← nonzero_bit (maskBit _ e), ← mask_at]
  pointwise [maskOut]
  rfl

/-- The kernel's logits are the reference's. -/
theorem logitOut_eq (c : Dev nD) : logitOut m c = Plain.logits (tokens m c) (weights m c) := by
  funext i
  rw [eq_ix2 i]
  exact logitOut_at m c _ _

/-- The kernel's probabilities are the reference's. -/
theorem probOut_eq (c : Dev nD) :
    probOut m c = Plain.probs (Plain.scaled (Plain.logits (tokens m c) (weights m c))) := by
  funext i
  rw [eq_ix2 i, Plain.scaled_eq]
  exact (probOut_at m c _ _).trans (Plain.probs_at _ _ _).symm

theorem bit_one (b : Bool) : (BitVec.ofBool b == 1#1) = b := by
  revert b
  decide

theorem mask_same (c : Dev nD) (hs : ∀ n e, ⊥ < scores m c n e) (n : Fin 8192) (e : Fin 16) :
    maskOut m c (ix2 n e) = Plain.marks (Plain.chosen (Plain.logits (tokens m c) (weights m c))) (ix2 n e) := by
  rw [maskOut_at, maskBit_eq _ (hs n), Plain.marks_at, Plain.chosen_at, Plain.chosen_at]
  simp only [Ideal.cmp_ogt, bit_one]
  rfl

/-- The kernel's mask is the reference's where no logit is minus infinity. -/
theorem maskOut_eq (c : Dev nD) (hs : ∀ n e, ⊥ < scores m c n e) :
    maskOut m c = Plain.marks (Plain.chosen (Plain.logits (tokens m c) (weights m c))) := by
  funext i
  rw [eq_ix2 i]
  exact mask_same m c hs _ _

/-- Logits of finite tokens and weights are finite. -/
theorem scores_finite (c : Dev nD) (hh : ∀ i, ∃ r : ℝ, tokens m c i = (r : EReal))
    (hw : ∀ i, ∃ r : ℝ, weights m c i = (r : EReal)) (n : Fin 8192) (e : Fin 16) : ⊥ < scores m c n e := by
  have sum : ∃ r : ℝ, scores m c n e = (r : EReal) := by
    rw [scores, Plain.logits_at]
    refine Finset.sum_induction _ (fun x : EReal => ∃ r : ℝ, x = (r : EReal)) ?_ ⟨0, rfl⟩ fun k _ => ?_
    · rintro _ _ ⟨a, rfl⟩ ⟨b, rfl⟩
      exact ⟨a + b, (EReal.coe_add a b).symm⟩
    · obtain ⟨a, ha⟩ := hh (ix2 n k)
      obtain ⟨b, hb⟩ := hw (ix2 e k)
      exact ⟨a * b, by rw [ha, hb, EReal.coe_mul]⟩
  obtain ⟨r, hr⟩ := sum
  rw [hr]
  exact EReal.bot_lt_coe r

end Cert.Router

end
-- ==== Proof.Runs.lean ====
/-
  The two programs' runs with their results named.
-/
module

public import proofs.«01_k».proof.Proof.Results
public import Idealize.ShloMosaic.Lib.Quiescent

@[expose] public section

set_option maxRecDepth 16384

noncomputable section

namespace Cert.Router

open Idealize.ShloMosaic Idealize.ShloMosaic.TcCoe Idealize.SL.Sem

/-- The reference's run: its three results, its arguments, and no counter left up. -/
theorem reference_run
    (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r =>
      (∀ c : Dev ReferenceIdeal.nD,
        r.2.mem ((c.tc : Thread ReferenceIdeal.nD ReferenceIdeal.τ).loc ReferenceIdeal.main_v21)
            = Plain.marks (Plain.chosen (Plain.logits
                (m ((c.tc : Thread ReferenceIdeal.nD ReferenceIdeal.τ).loc ReferenceIdeal.main_arg0))
                (m ((c.tc : Thread ReferenceIdeal.nD ReferenceIdeal.τ).loc ReferenceIdeal.main_arg1))))
        ∧ r.2.mem ((c.tc : Thread ReferenceIdeal.nD ReferenceIdeal.τ).loc ReferenceIdeal.main_v16)
            = Plain.probs (Plain.scaled (Plain.logits
                (m ((c.tc : Thread ReferenceIdeal.nD ReferenceIdeal.τ).loc ReferenceIdeal.main_arg0))
                (m ((c.tc : Thread ReferenceIdeal.nD ReferenceIdeal.τ).loc ReferenceIdeal.main_arg1))))
        ∧ r.2.mem ((c.tc : Thread ReferenceIdeal.nD ReferenceIdeal.τ).loc ReferenceIdeal.main_v1)
            = Plain.logits (m ((c.tc : Thread ReferenceIdeal.nD ReferenceIdeal.τ).loc ReferenceIdeal.main_arg0))
                (m ((c.tc : Thread ReferenceIdeal.nD ReferenceIdeal.τ).loc ReferenceIdeal.main_arg1))
        ∧ r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1))
      ∧ r.2.sem = fun _ => 0) :=
  (θ_run ReferenceIdeal.defs _ _).mono
    (fun r h => ⟨h, sem_eq_zero_of_no_sems (by decide) r.2⟩) (ReferenceIdeal.Value.run (F := Ideal) m g)

end Cert.Router

end
-- ==== Proof.Same.lean ====
/-
  The kernel is printed twice, once as given and once idealized; the two are one program: the bodies, the body table and
  the main function are equal, for any float values.
-/
module

public import proofs.«01_k».proof.Proof.Gen.Kernel
public import proofs.«01_k».proof.Proof.Gen.KernelIdeal

@[expose] public section

set_option maxRecDepth 16384

noncomputable section

namespace Cert.Router

open Idealize.ShloMosaic

variable {F : FTy → Type} [FloatOps F]

/-- The grid points' bodies are the same. -/
theorem bodies_same : Kernel.defs₀ (F := F) = KernelIdeal.defs₀ (F := F) := by
  funext p l a
  cases p with
  | tc =>
    obtain ⟨l, hl⟩ := l
    obtain rfl : l = 0 := Nat.lt_one_iff.mp hl
    obtain ⟨t, s⟩ := a
    rfl
  | scScalar _ => rfl
  | scVector _ _ => rfl

/-- The body tables are the same. -/
theorem defs_same : Kernel.defs (F := F) = KernelIdeal.defs (F := F) :=
  congrArg (Pipeline.defs KernelIdeal.pcfgs) bodies_same

/-- The main functions are the same. -/
theorem main_same : Kernel.main (F := F) = KernelIdeal.main (F := F) := rfl

end Cert.Router

end
-- ==== Proof.Finite.lean ====
/-
  What the precondition says: every token and every weight is a real number.
-/
module

public import proofs.«01_k».proof.Proof.Gen.Pre_finite
public import Idealize.ShloMosaic.Lib.Pointwise
public import Idealize.ShloMosaic.Lib.ReduceAll

@[expose] public section

set_option maxRecDepth 16384

noncomputable section

namespace Cert.Router

open Idealize.ShloMosaic Cert.Pre_finite Cert.Pre_finite.Gen

instance : Subsingleton S_.Idx := ⟨fun i j => funext fun d => d.elim0⟩

theorem inf_word : Ideal.ofBits .f32 0x7F800000#32 = ⊤ := by
  simp [Ideal.ofBits, Ideal.ieee]

theorem real_of_abs (x : EReal) (h : max x (-x) < ⊤) : ∃ r : ℝ, x = (r : EReal) := by
  induction x with
  | bot => simp at h
  | coe r => exact ⟨r, rfl⟩
  | top => simp at h

theorem real_of_cmp {s : Shape} (x : FVec Ideal s .f32) (b : S_.BroadcastsInDim s ![]) (i : s.Idx)
    (e : cmpf .olt (Host.absf x) (broadcastInDim s ![] b (constant S_ .f32 0x7F800000#32)) i = 1#1) :
    ∃ r : ℝ, x i = (r : EReal) := by
  refine real_of_abs _ ?_
  have h : Ideal.cmp .olt (max (x i) (-(x i))) (Ideal.ofBits .f32 0x7F800000#32) = 1#1 := e
  rw [inf_word] at h
  exact by_contra fun n => by simp [Ideal.cmp_olt, n] at h

theorem real_of_finite (h : FVec Ideal S8192x2048 .f32) (w : FVec Ideal S16x2048 .f32)
    (e : Cert.Pre_finite.fn h w = fun _ => 1#1) :
    (∀ i, ∃ r : ℝ, h i = (r : EReal)) ∧ ∀ i, ∃ r : ℝ, w i = (r : EReal) := by
  have e' := congrFun e ix0
  unfold Cert.Pre_finite.fn at e'
  have split : ∀ a b : BitVec 1, IntOp.andi a b = 1#1 → a = 1#1 ∧ b = 1#1 := by decide
  obtain ⟨e1, e2⟩ := split _ _ e'
  exact ⟨fun i => real_of_cmp h _ i (Host.reduce_andi_all _ _ _ _ _ e1 i),
    fun i => real_of_cmp w _ i (Host.reduce_andi_all _ _ _ _ _ e2 i)⟩

end Cert.Router

end
-- ==== Proof.lean ====
/-
  The proof of `Cert.Claim`: the frames, that the ideal kernel is the kernel, and that its results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.On_probs_and_logits
public import proofs.«01_k».proof.Proof.Runs
public import proofs.«01_k».proof.Proof.Same
public import proofs.«01_k».proof.Proof.Finite
public import Idealize.ShloMosaic.Adequacy
public import Idealize.ShloMosaic.Init

@[expose] public section

noncomputable section

namespace Cert.Proof

open Idealize.ShloMosaic Idealize.SL.Sem Cert.Router

attribute [local instance] Cert.Kernel.Gen.facts Cert.KernelIdeal.Gen.facts Cert.ReferenceIdeal.Gen.facts
  Cert.Pre_finite.Gen.facts Cert.On_probs_and_logits.Gen.facts

/-- The frame of the kernel, for any float values. -/
theorem frame_any {F : FTy → Type} [FloatOps F]
    (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩
      (fun r => (∀ c : Dev KernelIdeal.nD,
        r.2.mem ((c.tc : Thread KernelIdeal.nD KernelIdeal.τ).loc KernelIdeal.main_arg0)
            = m ((c.tc : Thread KernelIdeal.nD KernelIdeal.τ).loc KernelIdeal.main_arg0)
        ∧ r.2.mem ((c.tc : Thread KernelIdeal.nD KernelIdeal.τ).loc KernelIdeal.main_arg1)
            = m ((c.tc : Thread KernelIdeal.nD KernelIdeal.τ).loc KernelIdeal.main_arg1))
        ∧ r.2.sem = fun _ => 0) :=
  (θ_run KernelIdeal.defs _ _).mono (fun _ h => ⟨fun c => (h.1 c).2.2.2, h.2⟩) (kernel_run m g)

/-- The two printed programs are one, so the frame of the one on words is the other's. -/
theorem kernel_frame : Cert.quiescent_Kernel := by
  intro m g _
  have h := frame_any (F := Bits) m g
  rw [← defs_same, ← main_same] at h
  exact h

theorem kernelIdeal_frame : Cert.quiescent_KernelIdeal := fun m g _ => frame_any m g

theorem referenceIdeal_frame : Cert.quiescent_ReferenceIdeal := fun m g _ =>
  (θ_run ReferenceIdeal.defs _ _).mono (fun _ h => ⟨fun c => (h.1 c).2.2.2, h.2⟩) (reference_run m g)

/-- The probabilities and the logits agree on every input. -/
theorem on_probs_and_logits : Cert.algebraic_KernelIdeal_ReferenceIdeal_on_probs_and_logits := by
  intro m g m' g' _ same
  refine ⟨fun c => maskOut m c, fun c => probOut m c, fun c => logitOut m c, ?_, ?_⟩
  · refine (θ_run KernelIdeal.defs _ _).mono (fun r h c => ?_) (kernel_run (F := Ideal) m g)
    obtain ⟨h0, h1, h2, ha⟩ := h.1 c
    exact ⟨fun i _ => congrFun h0 i, fun i _ => congrFun h1 i, fun i _ => congrFun h2 i, ha⟩
  · refine (θ_run ReferenceIdeal.defs _ _).mono (fun r h c => ?_) (reference_run m' g')
    obtain ⟨-, h1, h2, ha⟩ := h.1 c
    rw [(same c).1, (same c).2] at h1 h2
    refine ⟨fun i off => ?_, fun i _ => congrFun (h1.trans (probOut_eq m c).symm) i,
      fun i _ => congrFun (h2.trans (logitOut_eq m c).symm) i, ha⟩
    exact absurd (show (0#1 : BitVec 1) = 1#1 from off) (by decide)

/-- All three results agree on finite inputs. -/
theorem on_finite : Cert.algebraic_KernelIdeal_ReferenceIdeal_pre_finite := by
  intro m g m' g' pre same
  refine ⟨fun c => maskOut m c, fun c => probOut m c, fun c => logitOut m c, ?_, ?_⟩
  · exact (θ_run KernelIdeal.defs _ _).mono (fun r h c => h.1 c) (kernel_run (F := Ideal) m g)
  · refine (θ_run ReferenceIdeal.defs _ _).mono (fun r h c => ?_) (reference_run m' g')
    obtain ⟨h0, h1, h2, ha⟩ := h.1 c
    rw [(same c).1, (same c).2] at h0 h1 h2
    obtain ⟨fh, fw⟩ := real_of_finite _ _ (pre c)
    exact ⟨h0.trans (maskOut_eq m c (scores_finite m c fh fw)).symm, h1.trans (probOut_eq m c).symm,
      h2.trans (logitOut_eq m c).symm, ha⟩

theorem claim : Cert.Claim :=
  ⟨Cert.Kernel.Gen.facts, Cert.KernelIdeal.Gen.facts, Cert.ReferenceIdeal.Gen.facts, Cert.Pre_finite.Gen.facts,
    Cert.On_probs_and_logits.Gen.facts, kernel_frame, kernelIdeal_frame, fun m g _ => kernelIdeal_frame m g trivial,
    referenceIdeal_frame, fun m g _ => referenceIdeal_frame m g trivial,
    trivial, on_probs_and_logits, on_finite⟩

end Cert.Proof

end
